-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048x4 : Shape := ⟨3, ![2048, 2048, 4]⟩
abbrev S2048x16x128x4 : Shape := ⟨4, ![2048, 16, 128, 4]⟩
abbrev S2048x16x4x128 : Shape := ⟨4, ![2048, 16, 4, 128]⟩
abbrev S2048x64x128 : Shape := ⟨3, ![2048, 64, 128]⟩
abbrev S256x64x128 : Shape := ⟨3, ![256, 64, 128]⟩
abbrev S2x256x64x128 : Shape := ⟨4, ![2, 256, 64, 128]⟩
abbrev S2 : Shape := ⟨1, ![2]⟩
abbrev S1 : Shape := ⟨1, ![1]⟩
abbrev S_ : Shape := ⟨0, ![]⟩
abbrev S1x256x64x128 : Shape := ⟨4, ![1, 256, 64, 128]⟩
abbrev S1x256x56x128 : Shape := ⟨4, ![1, 256, 56, 128]⟩
abbrev S256x56x128 : Shape := ⟨3, ![256, 56, 128]⟩
abbrev S1x256x48x128 : Shape := ⟨4, ![1, 256, 48, 128]⟩
abbrev S256x48x128 : Shape := ⟨3, ![256, 48, 128]⟩
abbrev S1x256x40x128 : Shape := ⟨4, ![1, 256, 40, 128]⟩
abbrev S256x40x128 : Shape := ⟨3, ![256, 40, 128]⟩
abbrev S1x256x32x128 : Shape := ⟨4, ![1, 256, 32, 128]⟩
abbrev S256x32x128 : Shape := ⟨3, ![256, 32, 128]⟩
abbrev S1x256x24x128 : Shape := ⟨4, ![1, 256, 24, 128]⟩
abbrev S256x24x128 : Shape := ⟨3, ![256, 24, 128]⟩
abbrev S1x256x16x128 : Shape := ⟨4, ![1, 256, 16, 128]⟩
abbrev S256x16x128 : Shape := ⟨3, ![256, 16, 128]⟩
abbrev S1x256x8x128 : Shape := ⟨4, ![1, 256, 8, 128]⟩
abbrev S256x8x128 : Shape := ⟨3, ![256, 8, 128]⟩

abbrev nBuf : Space → Nat
  | .hbm => 8
  | .vmem => 3
  | .smem => 0
  | _ => 0

abbrev bufTy : (tb : Table) → Fin (tcTables nBuf tb) → BufTy
  | .hbm, ⟨0, _⟩ => ⟨S2048x2048x4, .f32⟩
  | .hbm, ⟨1, _⟩ => ⟨S2048x16x128x4, .f32⟩
  | .hbm, ⟨2, _⟩ => ⟨S2048x16x4x128, .f32⟩
  | .hbm, ⟨3, _⟩ => ⟨S2048x64x128, .f32⟩
  | .hbm, ⟨4, _⟩ => ⟨S2048x64x128, .f32⟩
  | .hbm, ⟨5, _⟩ => ⟨S2048x16x4x128, .f32⟩
  | .hbm, ⟨6, _⟩ => ⟨S2048x16x128x4, .f32⟩
  | .hbm, ⟨7, _⟩ => ⟨S2048x2048x4, .f32⟩
  | .local _ .vmem, ⟨0, _⟩ => ⟨S256x64x128, .f32⟩
  | .local _ .vmem, ⟨1, _⟩ => ⟨S256x64x128, .f32⟩
  | .local _ .vmem, ⟨2, _⟩ => ⟨S2x256x64x128, .f32⟩
  | _, _ => ⟨S2048x2048x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 1 → Nat :=
  let c0_i32_21 : BitVec 32 := 0#32
  let c2_i32_22 : BitVec 32 := 2#32
  let v52 : BitVec 32 := Scalar.remsi c0_i32_21 c2_i32_22
  ![v52.toNat]
def k0_off2 : Fin 4 → Nat :=
  let c0_i32_21 : BitVec 32 := 0#32
  let c2_i32_22 : BitVec 32 := 2#32
  let v52 : BitVec 32 := Scalar.remsi c0_i32_21 c2_i32_22
  let c0_i32_23 : BitVec 32 := 0#32
  let c0_i32_24 : BitVec 32 := 0#32
  let c0_i32_25 : BitVec 32 := 0#32
  ![v52.toNat, 0, 0, 0]
def k0_cond2 (i : grid0.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c1_i32_21 : BitVec 32 := 1#32
  let v52 : BitVec 32 := Scalar.addi arg0 c1_i32_21
  let c0_i32_24 : BitVec 32 := 0#32
  let v55 : BitVec 1 := Scalar.cmpi .eq v52 c0_i32_24
  let v56 : BitVec 32 := Scalar.extui v55
  let c0_i32_25 : BitVec 32 := 0#32
  let v57 : BitVec 1 := Scalar.cmpi .ne v56 c0_i32_25
  v57

def k0_off3 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off4 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c0_i32_41 : BitVec 32 := 0#32
  let c0_i32_42 : BitVec 32 := 0#32
  ![v53.toNat, 0, 0, 0]
def k0_off5 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c0_i32_43 : BitVec 32 := 0#32
  let c0_i32_44 : BitVec 32 := 0#32
  ![v54.toNat, 0, 0]
def k0_cond4 (i : grid0.Coords) : BitVec 1 :=
  let arg0 : BitVec 32 := BitVec.ofNat 32 (i 0).val
  let c1_i32_21 : BitVec 32 := 1#32
  let v52 : BitVec 32 := Scalar.addi arg0 c1_i32_21
  let c1_i32_26 : BitVec 32 := 1#32
  let v58 : BitVec 1 := Scalar.cmpi .eq v52 c1_i32_26
  let v59 : BitVec 32 := Scalar.extui v58
  let c0_i32_27 : BitVec 32 := 0#32
  let v60 : BitVec 1 := Scalar.cmpi .ne v59 c0_i32_27
  v60

def k0_off6 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off7 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c8_i32_41 : BitVec 32 := 8#32
  let c0_i32_42 : BitVec 32 := 0#32
  ![v53.toNat, 0, 8, 0]
def k0_off8 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c8_i32_43 : BitVec 32 := 8#32
  let c0_i32_44 : BitVec 32 := 0#32
  ![v54.toNat, 8, 0]
def k0_cond5 (i : grid0.Coords) : BitVec 1 :=
  let arg0 : BitVec 32 := BitVec.ofNat 32 (i 0).val
  let c1_i32_21 : BitVec 32 := 1#32
  let v52 : BitVec 32 := Scalar.addi arg0 c1_i32_21
  let c2_i32_28 : BitVec 32 := 2#32
  let v61 : BitVec 1 := Scalar.cmpi .eq v52 c2_i32_28
  let v62 : BitVec 32 := Scalar.extui v61
  let c0_i32_29 : BitVec 32 := 0#32
  let v63 : BitVec 1 := Scalar.cmpi .ne v62 c0_i32_29
  v63

def k0_off9 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off10 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c16_i32 : BitVec 32 := 16#32
  let c0_i32_41 : BitVec 32 := 0#32
  ![v53.toNat, 0, 16, 0]
def k0_off11 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c16_i32_42 : BitVec 32 := 16#32
  let c0_i32_43 : BitVec 32 := 0#32
  ![v54.toNat, 16, 0]
def k0_cond6 (i : grid0.Coords) : BitVec 1 :=
  let arg0 : BitVec 32 := BitVec.ofNat 32 (i 0).val
  let c1_i32_21 : BitVec 32 := 1#32
  let v52 : BitVec 32 := Scalar.addi arg0 c1_i32_21
  let c3_i32_30 : BitVec 32 := 3#32
  let v64 : BitVec 1 := Scalar.cmpi .eq v52 c3_i32_30
  let v65 : BitVec 32 := Scalar.extui v64
  let c0_i32_31 : BitVec 32 := 0#32
  let v66 : BitVec 1 := Scalar.cmpi .ne v65 c0_i32_31
  v66

def k0_off12 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off13 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c24_i32 : BitVec 32 := 24#32
  let c0_i32_41 : BitVec 32 := 0#32
  ![v53.toNat, 0, 24, 0]
def k0_off14 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c24_i32_42 : BitVec 32 := 24#32
  let c0_i32_43 : BitVec 32 := 0#32
  ![v54.toNat, 24, 0]
def k0_cond7 (i : grid0.Coords) : BitVec 1 :=
  let arg0 : BitVec 32 := BitVec.ofNat 32 (i 0).val
  let c1_i32_21 : BitVec 32 := 1#32
  let v52 : BitVec 32 := Scalar.addi arg0 c1_i32_21
  let c4_i32_32 : BitVec 32 := 4#32
  let v67 : BitVec 1 := Scalar.cmpi .eq v52 c4_i32_32
  let v68 : BitVec 32 := Scalar.extui v67
  let c0_i32_33 : BitVec 32 := 0#32
  let v69 : BitVec 1 := Scalar.cmpi .ne v68 c0_i32_33
  v69

def k0_off15 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off16 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c32_i32 : BitVec 32 := 32#32
  let c0_i32_41 : BitVec 32 := 0#32
  ![v53.toNat, 0, 32, 0]
def k0_off17 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c32_i32_42 : BitVec 32 := 32#32
  let c0_i32_43 : BitVec 32 := 0#32
  ![v54.toNat, 32, 0]
def k0_cond8 (i : grid0.Coords) : BitVec 1 :=
  let arg0 : BitVec 32 := BitVec.ofNat 32 (i 0).val
  let c1_i32_21 : BitVec 32 := 1#32
  let v52 : BitVec 32 := Scalar.addi arg0 c1_i32_21
  let c5_i32_34 : BitVec 32 := 5#32
  let v70 : BitVec 1 := Scalar.cmpi .eq v52 c5_i32_34
  let v71 : BitVec 32 := Scalar.extui v70
  let c0_i32_35 : BitVec 32 := 0#32
  let v72 : BitVec 1 := Scalar.cmpi .ne v71 c0_i32_35
  v72

def k0_off18 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off19 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c40_i32 : BitVec 32 := 40#32
  let c0_i32_41 : BitVec 32 := 0#32
  ![v53.toNat, 0, 40, 0]
def k0_off20 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c40_i32_42 : BitVec 32 := 40#32
  let c0_i32_43 : BitVec 32 := 0#32
  ![v54.toNat, 40, 0]
def k0_cond9 (i : grid0.Coords) : BitVec 1 :=
  let arg0 : BitVec 32 := BitVec.ofNat 32 (i 0).val
  let c1_i32_21 : BitVec 32 := 1#32
  let v52 : BitVec 32 := Scalar.addi arg0 c1_i32_21
  let c6_i32_36 : BitVec 32 := 6#32
  let v73 : BitVec 1 := Scalar.cmpi .eq v52 c6_i32_36
  let v74 : BitVec 32 := Scalar.extui v73
  let c0_i32_37 : BitVec 32 := 0#32
  let v75 : BitVec 1 := Scalar.cmpi .ne v74 c0_i32_37
  v75

def k0_off21 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off22 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c48_i32 : BitVec 32 := 48#32
  let c0_i32_41 : BitVec 32 := 0#32
  ![v53.toNat, 0, 48, 0]
def k0_off23 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c48_i32_42 : BitVec 32 := 48#32
  let c0_i32_43 : BitVec 32 := 0#32
  ![v54.toNat, 48, 0]
def k0_cond10 (i : grid0.Coords) : BitVec 1 :=
  let arg0 : BitVec 32 := BitVec.ofNat 32 (i 0).val
  let c1_i32_21 : BitVec 32 := 1#32
  let v52 : BitVec 32 := Scalar.addi arg0 c1_i32_21
  let c7_i32_38 : BitVec 32 := 7#32
  let v76 : BitVec 1 := Scalar.cmpi .eq v52 c7_i32_38
  let v77 : BitVec 32 := Scalar.extui v76
  let c0_i32_39 : BitVec 32 := 0#32
  let v78 : BitVec 1 := Scalar.cmpi .ne v77 c0_i32_39
  v78

def k0_off24 (i : grid0.Coords) : Fin 1 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  ![v53.toNat]
def k0_off25 (i : grid0.Coords) : Fin 4 → Nat :=
  let arg0 : BitVec 32 := BitVec.ofNat 32 (i 0).val
  let c1_i32_21 : BitVec 32 := 1#32
  let v52 : BitVec 32 := Scalar.addi arg0 c1_i32_21
  let c2_i32_22 : BitVec 32 := 2#32
  let v53 : BitVec 32 := Scalar.remsi v52 c2_i32_22
  let c0_i32_40 : BitVec 32 := 0#32
  let c56_i32 : BitVec 32 := 56#32
  let c0_i32_41 : BitVec 32 := 0#32
  ![v53.toNat, 0, 56, 0]
def k0_off26 (i : grid0.Coords) : Fin 3 → Nat :=
  let arg0 : BitVec 32 := BitVec.ofNat 32 (i 0).val
  let c1_i32_21 : BitVec 32 := 1#32
  let v52 : BitVec 32 := Scalar.addi arg0 c1_i32_21
  let c256_i32_23 : BitVec 32 := 256#32
  let v54 : BitVec 32 := Scalar.muli v52 c256_i32_23
  let c56_i32_42 : BitVec 32 := 56#32
  let c0_i32_43 : BitVec 32 := 0#32
  ![v54.toNat, 56, 0]
def k0_cond11 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

def k0_off27 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off28 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c0_i32_22 : BitVec 32 := 0#32
  let c0_i32_23 : BitVec 32 := 0#32
  ![v7.toNat, 0, 0, 0]
def k0_off29 (i : grid0.Coords) : Fin 3 → Nat :=
  let arg0 : BitVec 32 := BitVec.ofNat 32 (i 0).val
  let c256_i32 : BitVec 32 := 256#32
  let v8 : BitVec 32 := Scalar.muli arg0 c256_i32
  let c0_i32_24 : BitVec 32 := 0#32
  let c0_i32_25 : BitVec 32 := 0#32
  ![v8.toNat, 0, 0]
def k0_cond12 (i : grid0.Coords) : BitVec 1 :=
  let arg0 : BitVec 32 := BitVec.ofNat 32 (i 0).val
  let c1_i32_4 : BitVec 32 := 1#32
  let v12 : BitVec 1 := Scalar.cmpi .eq arg0 c1_i32_4
  let v13 : BitVec 32 := Scalar.extui v12
  let c0_i32_5 : BitVec 32 := 0#32
  let v14 : BitVec 1 := Scalar.cmpi .ne v13 c0_i32_5
  v14

def k0_off30 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off31 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c8_i32_22 : BitVec 32 := 8#32
  let c0_i32_23 : BitVec 32 := 0#32
  ![v7.toNat, 0, 8, 0]
def k0_off32 (i : grid0.Coords) : Fin 3 → Nat :=
  let arg0 : BitVec 32 := BitVec.ofNat 32 (i 0).val
  let c256_i32 : BitVec 32 := 256#32
  let v8 : BitVec 32 := Scalar.muli arg0 c256_i32
  let c8_i32_24 : BitVec 32 := 8#32
  let c0_i32_25 : BitVec 32 := 0#32
  ![v8.toNat, 8, 0]
def k0_cond13 (i : grid0.Coords) : BitVec 1 :=
  let arg0 : BitVec 32 := BitVec.ofNat 32 (i 0).val
  let c2_i32_6 : BitVec 32 := 2#32
  let v15 : BitVec 1 := Scalar.cmpi .eq arg0 c2_i32_6
  let v16 : BitVec 32 := Scalar.extui v15
  let c0_i32_7 : BitVec 32 := 0#32
  let v17 : BitVec 1 := Scalar.cmpi .ne v16 c0_i32_7
  v17

def k0_off33 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off34 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c16_i32 : BitVec 32 := 16#32
  let c0_i32_22 : BitVec 32 := 0#32
  ![v7.toNat, 0, 16, 0]
def k0_off35 (i : grid0.Coords) : Fin 3 → Nat :=
  let arg0 : BitVec 32 := BitVec.ofNat 32 (i 0).val
  let c256_i32 : BitVec 32 := 256#32
  let v8 : BitVec 32 := Scalar.muli arg0 c256_i32
  let c16_i32_23 : BitVec 32 := 16#32
  let c0_i32_24 : BitVec 32 := 0#32
  ![v8.toNat, 16, 0]
def k0_cond14 (i : grid0.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_8 : BitVec 32 := 0#32
  let v20 : BitVec 1 := Scalar.cmpi .ne v19 c0_i32_8
  v20

def k0_off36 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off37 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c24_i32 : BitVec 32 := 24#32
  let c0_i32_22 : BitVec 32 := 0#32
  ![v7.toNat, 0, 24, 0]
def k0_off38 (i : grid0.Coords) : Fin 3 → Nat :=
  let arg0 : BitVec 32 := BitVec.ofNat 32 (i 0).val
  let c256_i32 : BitVec 32 := 256#32
  let v8 : BitVec 32 := Scalar.muli arg0 c256_i32
  let c24_i32_23 : BitVec 32 := 24#32
  let c0_i32_24 : BitVec 32 := 0#32
  ![v8.toNat, 24, 0]
def k0_cond15 (i : grid0.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_9 : BitVec 32 := 0#32
  let v23 : BitVec 1 := Scalar.cmpi .ne v22 c0_i32_9
  v23

def k0_off39 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off40 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c32_i32 : BitVec 32 := 32#32
  let c0_i32_22 : BitVec 32 := 0#32
  ![v7.toNat, 0, 32, 0]
def k0_off41 (i : grid0.Coords) : Fin 3 → Nat :=
  let arg0 : BitVec 32 := BitVec.ofNat 32 (i 0).val
  let c256_i32 : BitVec 32 := 256#32
  let v8 : BitVec 32 := Scalar.muli arg0 c256_i32
  let c32_i32_23 : BitVec 32 := 32#32
  let c0_i32_24 : BitVec 32 := 0#32
  ![v8.toNat, 32, 0]
def k0_cond16 (i : grid0.Coords) : BitVec 1 :=
  let arg0 : BitVec 32 := BitVec.ofNat 32 (i 0).val
  let c5_i32 : BitVec 32 := 5#32
  let v24 : BitVec 1 := Scalar.cmpi .eq arg0 c5_i32
  let v25 : BitVec 32 := Scalar.extui v24
  let c0_i32_10 : BitVec 32 := 0#32
  let v26 : BitVec 1 := Scalar.cmpi .ne v25 c0_i32_10
  v26

def k0_off42 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off43 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c40_i32 : BitVec 32 := 40#32
  let c0_i32_22 : BitVec 32 := 0#32
  ![v7.toNat, 0, 40, 0]
def k0_off44 (i : grid0.Coords) : Fin 3 → Nat :=
  let arg0 : BitVec 32 := BitVec.ofNat 32 (i 0).val
  let c256_i32 : BitVec 32 := 256#32
  let v8 : BitVec 32 := Scalar.muli arg0 c256_i32
  let c40_i32_23 : BitVec 32 := 40#32
  let c0_i32_24 : BitVec 32 := 0#32
  ![v8.toNat, 40, 0]
def k0_cond17 (i : grid0.Coords) : BitVec 1 :=
  let arg0 : BitVec 32 := BitVec.ofNat 32 (i 0).val
  let c6_i32 : BitVec 32 := 6#32
  let v27 : BitVec 1 := Scalar.cmpi .eq arg0 c6_i32
  let v28 : BitVec 32 := Scalar.extui v27
  let c0_i32_11 : BitVec 32 := 0#32
  let v29 : BitVec 1 := Scalar.cmpi .ne v28 c0_i32_11
  v29

def k0_off45 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off46 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c48_i32 : BitVec 32 := 48#32
  let c0_i32_22 : BitVec 32 := 0#32
  ![v7.toNat, 0, 48, 0]
def k0_off47 (i : grid0.Coords) : Fin 3 → Nat :=
  let arg0 : BitVec 32 := BitVec.ofNat 32 (i 0).val
  let c256_i32 : BitVec 32 := 256#32
  let v8 : BitVec 32 := Scalar.muli arg0 c256_i32
  let c48_i32_23 : BitVec 32 := 48#32
  let c0_i32_24 : BitVec 32 := 0#32
  ![v8.toNat, 48, 0]
def k0_cond18 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_12 : BitVec 32 := 0#32
  let v32 : BitVec 1 := Scalar.cmpi .ne v31 c0_i32_12
  v32

def k0_off48 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off49 (i : grid0.Coords) : Fin 4 → Nat :=
  let arg0 : BitVec 32 := BitVec.ofNat 32 (i 0).val
  let c2_i32 : BitVec 32 := 2#32
  let v7 : BitVec 32 := Scalar.remsi arg0 c2_i32
  let c0_i32_21 : BitVec 32 := 0#32
  let c56_i32 : BitVec 32 := 56#32
  let c0_i32_22 : BitVec 32 := 0#32
  ![v7.toNat, 0, 56, 0]
def k0_off50 (i : grid0.Coords) : Fin 3 → Nat :=
  let arg0 : BitVec 32 := BitVec.ofNat 32 (i 0).val
  let c256_i32 : BitVec 32 := 256#32
  let v8 : BitVec 32 := Scalar.muli arg0 c256_i32
  let c56_i32_23 : BitVec 32 := 56#32
  let c0_i32_24 : BitVec 32 := 0#32
  ![v8.toNat, 56, 0]
def k0_off51 (i : grid0.Coords) : Fin 4 → Nat :=
  let arg0 : BitVec 32 := BitVec.ofNat 32 (i 0).val
  let c2_i32_13 : BitVec 32 := 2#32
  let v33 : BitVec 32 := Scalar.remsi arg0 c2_i32_13
  let v46 : Index := Scalar.indexCast v33
  let c0 : Index := 0#32
  let c0_16 : Index := 0#32
  let c0_17 : Index := 0#32
  ![v46.toNat, 0, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S2048x2048x4 : Shape := ⟨3, ![2048, 2048, 4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048x4, .f32⟩
  | .hbm, ⟨1, _⟩ => ⟨S2048, .i32⟩
  | .hbm, ⟨2, _⟩ => ⟨S2048, .i32⟩
  | .hbm, ⟨3, _⟩ => ⟨S2048x1, .i32⟩
  | .hbm, ⟨4, _⟩ => ⟨S1x2048, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048x1, .i1⟩
  | .hbm, ⟨9, _⟩ => ⟨S_, .f32⟩
  | .hbm, ⟨10, _⟩ => ⟨S2048x2048x4, .i1⟩
  | .hbm, ⟨11, _⟩ => ⟨S2048x2048x4, .f32⟩
  | .hbm, ⟨12, _⟩ => ⟨S2048x2048x4, .f32⟩
  | _, _ => ⟨S2048x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.KernelSlots.lean ====
/- The two slots of the scratch buffer, and what a transfer into one of them leaves there.

   Block `b` of the operand is copied from column `8 * b` on, into the same columns of a slot. The columns
   before it keep whatever the slot held: nothing is claimed of them, and the mask hides them later. -/
module

public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.Kernel.Slots

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

/-- Contents of the operand in HBM. -/
abbrev Operand (F : FTy → Type) (c : Dev nD) : Type := Buf (Elt F) ((c : Thread nD τ).loc main_v2)
/-- Contents of the scratch buffer. -/
abbrev Scratch (F : FTy → Type) (c : Dev nD) : Type := Buf (Elt F) ((c : Thread nD τ).loc cc0_scratch0)

/-- The operand's row that row `r` of block `b` is. -/
def rowAt (b : ℕ) (r : Fin 256) : Fin 2048 := ⟨(256 * b + r.val) % 2048, Nat.mod_lt _ (by decide)⟩

theorem rowAt_val {b : ℕ} (hb : b < 8) (r : Fin 256) : (rowAt b r).val = 256 * b + r.val :=
  Nat.mod_eq_of_lt (by have := r.isLt; omega)

/-- The elements of slot `s`. -/
def slotSet (s : Fin 2) : Finset S2x256x64x128.Idx := Finset.univ.filter fun i => (i 0).val = s.val

theorem mem_slotSet (s : Fin 2) (i : S2x256x64x128.Idx) : i ∈ slotSet s ↔ (i 0).val = s.val := by
  simp [slotSet]

theorem slots_disjoint (s s' : Fin 2) (h : s ≠ s') : Disjoint (slotSet s) (slotSet s') := by
  rw [Finset.disjoint_left]
  intro i hi hi'
  rw [mem_slotSet] at hi hi'
  exact h (Fin.ext (hi.symm.trans hi'))

theorem slots_cover : Finset.univ.biUnion slotSet = Finset.univ := by
  ext i
  simp only [Finset.mem_biUnion, Finset.mem_univ, true_and, iff_true]
  exact ⟨⟨(i 0).val, (i 0).isLt⟩, (mem_slotSet _ _).2 rfl⟩

/-- Slot `s` of a scratch buffer holds block `b` of the operand from column `8 * b` on. -/
def Landed (c : Dev nD) (W : Operand F c) (s : Fin 2) (b : ℕ) (f : Scratch F c) : Prop :=
  ∀ (r : Fin 256) (q : Fin 64) (l : Fin 128), 8 * b ≤ q.val →
    f (ix4 (n0 := 2) (n1 := 256) (n2 := 64) (n3 := 128) s r q l) = W (ix3 (n0 := 2048) (n1 := 64) (n2 := 128) (rowAt b r) q l)

/-- `n` columns of the scratch at an offset, one slot deep, with the slot's axis dropped: where a transfer goes. -/
abbrev dstWin (n : ℕ) (o : Fin 4 → ℕ) (inb : ∀ a, o a + (⟨4, ![1, 256, n, 128]⟩ : Shape).size a ≤ S2x256x64x128.size a)
    (hq : (⟨4, ![1, 256, n, 128]⟩ : Shape).Squeezes ⟨3, ![256, n, 128]⟩) : Memref sig .tc .vmem ⟨3, ![256, n, 128]⟩ .f32 :=
  ((Memref.whole cc0_scratch0).slice (Rect.unit (s := S2x256x64x128) o (⟨4, ![1, 256, n, 128]⟩ : Shape).size inb) (fun _ => rfl)).squeeze
    ⟨3, ![256, n, 128]⟩ hq

/-- `n` columns of 256 rows of the operand at an offset: where a transfer comes from. -/
abbrev srcWin (n : ℕ) (o : Fin 3 → ℕ) (inb : ∀ a, o a + (⟨3, ![256, n, 128]⟩ : Shape).size a ≤ S2048x64x128.size a) :
    Memref sig .tc .hbm ⟨3, ![256, n, 128]⟩ .f32 :=
  (Memref.whole main_v2).slice (Rect.unit (s := S2048x64x128) o (⟨3, ![256, n, 128]⟩ : Shape).size inb) (fun _ => rfl)

/-- A window at slot `s` lies within slot `s`. -/
theorem dstWin_subset {n : ℕ} {o : Fin 4 → ℕ} {s : Fin 2} (ho : o 0 = s.val) (inb hq) :
    (dstWin n o inb hq).view.set ⊆ slotSet s := by
  intro i hi
  have e : (dstWin n o inb hq).view.set = (Rect.unit (s := S2x256x64x128) o (⟨4, ![1, 256, n, 128]⟩ : Shape).size inb).set :=
    (View.set_reshape _ hq.numel_eq).trans (View.set_slice_whole cc0_scratch0 _)
  have h := (Finset.ext_iff.1 e i).1 hi
  have h0 := (Rect.mem_set_unit.1 h) 0
  rw [mem_slotSet]
  simp only [ho, Matrix.cons_val_zero] at h0
  omega

/-- Where an index of a window lies in the scratch. -/
theorem dstWin_emb {n b : ℕ} {o : Fin 4 → ℕ} {s : Fin 2} (ho : o = ![s.val, 0, 8 * b, 0]) (inb hq)
    (r : Fin 256) (q : Fin n) (l : Fin 128) (q' : Fin 64) (hq' : q'.val = 8 * b + q.val) :
    (dstWin n o inb hq).view.emb (ix3 r q l) = ix4 (n0 := 2) (n1 := 256) (n2 := 64) (n3 := 128) s r q' l := by
  subst ho
  show (Rect.unit (s := S2x256x64x128) ![s.val, 0, 8 * b, 0] (⟨4, ![1, 256, n, 128]⟩ : Shape).size inb).emb (Shape.reshapeEquiv hq.numel_eq (ix3 r q l)) = _
  rw [reshapeEquiv_ix3_1abc]
  funext a
  refine Fin.ext ?_
  rw [Rect.emb_apply]
  fin_cases a
  · show s.val + 1 * 0 = s.val; omega
  · show 0 + 1 * r.val = r.val; omega
  · show 8 * b + 1 * q.val = q'.val; omega
  · show 0 + 1 * l.val = l.val; omega

/-- Where an index of a window lies in the operand. -/
theorem srcWin_emb {n b : ℕ} (hb : b < 8) {o : Fin 3 → ℕ} (ho : o = ![256 * b, 8 * b, 0]) (inb)
    (r : Fin 256) (q : Fin n) (l : Fin 128) (q' : Fin 64) (hq' : q'.val = 8 * b + q.val) :
    (srcWin n o inb).view.emb (ix3 r q l) = ix3 (n0 := 2048) (n1 := 64) (n2 := 128) (rowAt b r) q' l := by
  subst ho
  funext a
  refine Fin.ext ?_
  show ((Rect.unit (s := S2048x64x128) ![256 * b, 8 * b, 0] (⟨3, ![256, n, 128]⟩ : Shape).size inb).emb (ix3 r q l) a : ℕ) = _
  rw [Rect.emb_apply]
  fin_cases a
  · show 256 * b + 1 * r.val = (rowAt b r).val; rw [rowAt_val hb]; omega
  · show 8 * b + 1 * q.val = q'.val; omega
  · show 0 + 1 * l.val = l.val; omega

/-- THE LANDING: block `b` written into its window of slot `s`, over anything, is block `b` landed in slot `s`. -/
theorem landed_write {c : Dev nD} {W : Operand F c} {s : Fin 2} {b n : ℕ} (hb : b < 8) (hn : n = 64 - 8 * b)
    {o : Fin 4 → ℕ} (ho : o = ![s.val, 0, 8 * b, 0]) (inb hq) {o' : Fin 3 → ℕ} (ho' : o' = ![256 * b, 8 * b, 0]) (inb')
    (f : Scratch F c) :
    Landed c W s b ((dstWin n o inb hq).view.write (Elt F) f (ReadAs.same.apply ((srcWin n o' inb').view.read (Elt F) W)) Finset.univ) := by
  intro r q l hql
  have hqn : q.val - 8 * b < n := by have := q.isLt; omega
  rw [← dstWin_emb ho inb hq r ⟨q.val - 8 * b, hqn⟩ l q (by show q.val = 8 * b + (q.val - 8 * b); omega),
    View.write_emb_of_mem _ _ (Finset.mem_univ _),
    ← srcWin_emb hb ho' inb' r ⟨q.val - 8 * b, hqn⟩ l q (by show q.val = 8 * b + (q.val - 8 * b); omega)]
  rfl

end Cert.Kernel.Slots

end
-- ==== Proof.KernelMask.lean ====
/- What one grid point stores: its block of the operand, masked. -/
module

public import proofs.«01_k».proof.Proof.KernelSlots
public import proofs.«01_k».proof.Proof.Gen.Kernel.Skeleton

@[expose] public section

set_option maxRecDepth 16384

noncomputable section

namespace Cert.Kernel.Slots

open Idealize.ShloMosaic Idealize.ShloMosaic.TcCoe Idealize.ShloMosaic.Tactic Idealize.ShloMosaic.ValueIdx
open Idealize.SL Idealize.SL.Sem
open Cert.Kernel.Gen

variable {F : FTy → Type} [FloatOps F]

/-- Whether the element at column `q` and lane `l` of the operand's row `i` is kept: column `q` and lane `l` stand for the
    column `q / 4 * 128 + l` of the argument, which is kept at `i` and after it. -/
abbrev Keeps (i q l : ℕ) : Prop := i ≤ q / 4 * 128 + l

/-- Block `b` of the result: the operand where the mask keeps it, zero elsewhere. -/
def outBlk (c : Dev nD) (W : Operand F c) (b : ℕ) : Vec F S256x64x128 .f32 := fun i =>
  if Keeps (256 * b + (i 0).val) (i 1).val (i 2).val then
    W (ix3 (n0 := 2048) (n1 := 64) (n2 := 128) (rowAt b (i 0)) (i 1) (i 2))
  else Scalar.ofBits .f32 0x00000000#32

/-- The shift by two of a column's word is the word of a quarter of the column. -/
theorem shift_word (q : Fin 64) : IntOp.shrsi .vector (BitVec.ofNat 32 q.val) 2#32 = BitVec.ofNat 32 (q.val / 4) := by
  rw [IntOp.shrsi, if_pos (by decide)]
  revert q
  decide +kernel

/-- The kernel's comparison of words is the comparison of numbers. -/
theorem keep_word {b : ℕ} (hb : b < 8) (r : Fin 256) (q : Fin 64) (l : Fin 128) :
    IntOp.cmpi .sge (IntOp.addi (IntOp.muli (IntOp.shrsi .vector (BitVec.ofNat 32 q.val) 2#32) 128#32) (BitVec.ofNat 32 l.val))
      (IntOp.addi (BitVec.ofNat 32 r.val) (IntOp.muli (BitVec.ofNat 32 b) 256#32))
      = BitVec.ofBool (decide (Keeps (256 * b + r.val) q.val l.val)) := by
  have hr := r.isLt
  have hq := q.isLt
  have hl := l.isLt
  rw [shift_word]
  have e₁ : IntOp.addi (IntOp.muli (BitVec.ofNat 32 (q.val / 4)) 128#32) (BitVec.ofNat 32 l.val) = BitVec.ofNat 32 (q.val / 4 * 128 + l.val) := by
    rw [IntOp.addi, IntOp.muli, BitVec.ofNat_add, BitVec.ofNat_mul]
  have e₂ : IntOp.addi (BitVec.ofNat 32 r.val) (IntOp.muli (BitVec.ofNat 32 b) 256#32) = BitVec.ofNat 32 (256 * b + r.val) := by
    rw [IntOp.addi, IntOp.muli, Nat.add_comm, Nat.mul_comm, BitVec.ofNat_add, BitVec.ofNat_mul]
  rw [e₁, e₂]
  word_cmp

/-- A counting vector at an index: the word of the index's coordinate on its axis. -/
theorem iota_axis (a : Fin 3) (h : S256x64x128.Iotas .tc 32 [a]) (i : S256x64x128.Idx) :
    iota .tc S256x64x128 32 [a] h i = BitVec.ofNat 32 (i a).val :=
  congrArg (BitVec.ofNat 32) (by show 0 * S256x64x128.size a + (i a).val = _; rw [Nat.zero_mul, Nat.zero_add])

/-- Where an index of the loaded slot lies in the scratch. -/
theorem slot_emb (s : Fin 2) (inb : ∀ a, (![s.val, 0, 0, 0] : Fin 4 → ℕ) a + S1x256x64x128.size a ≤ S2x256x64x128.size a)
    (r : Fin 256) (q : Fin 64) (l : Fin 128) :
    (Rect.unit (s := S2x256x64x128) ![s.val, 0, 0, 0] S1x256x64x128.size inb).emb
      (Shape.reshapeEquiv shapeCasts_S1x256x64x128_S256x64x128 (ix3 r q l)) = ix4 (n0 := 2) (n1 := 256) (n2 := 64) (n3 := 128) s r q l := by
  rw [reshapeEquiv_ix3_1abc]
  funext a
  refine Fin.ext ?_
  rw [Rect.emb_apply]
  fin_cases a
  · show s.val + 1 * 0 = s.val; omega
  · show 0 + 1 * r.val = r.val; omega
  · show 0 + 1 * q.val = q.val; omega
  · show 0 + 1 * l.val = l.val; omega

/-- THE PAYLOAD: with block `b` landed in the slot that is loaded, what the kernel stores is block `b` of the result —
    whatever the columns before the transfer's hold, since the mask keeps none of them. -/
theorem pay_eq (c : Dev nD) (W : Operand F c) {b : ℕ} (hb : b < 8) (s : Fin 2) {f : Scratch F c} (hL : Landed c W s b f)
    {o : Fin 4 → ℕ} (ho : o = ![s.val, 0, 0, 0]) (inb) :
    k0_pay1 (F := F) (BitVec.ofNat 32 b)
      (((Memref.whole cc0_scratch0).access (Rect.unit (s := S2x256x64x128) o S1x256x64x128.size inb)).read (Elt F) f) = outBlk c W b := by
  subst ho
  funext i
  obtain ⟨r, q, l, rfl⟩ : ∃ (r : Fin 256) (q : Fin 64) (l : Fin 128), i = ix3 r q l := ⟨i 0, i 1, i 2, eq_ix3 i⟩
  show Scalar.select (IntOp.cmpi .sge
      (IntOp.addi (IntOp.muli (IntOp.shrsi .vector (iota .tc S256x64x128 32 [1] iota_S256x64x128_d1_w32 (ix3 r q l)) 2#32) 128#32)
        (iota .tc S256x64x128 32 [2] iota_S256x64x128_d2_w32 (ix3 r q l)))
      (IntOp.addi (iota .tc S256x64x128 32 [0] iota_S256x64x128_d0_w32 (ix3 r q l)) (IntOp.muli (BitVec.ofNat 32 b) 256#32)))
    (f ((Rect.unit (s := S2x256x64x128) ![s.val, 0, 0, 0] S1x256x64x128.size inb).emb
      (Shape.reshapeEquiv shapeCasts_S1x256x64x128_S256x64x128 (ix3 r q l))))
    (Scalar.ofBits .f32 0x00000000#32) = _
  rw [iota_axis, iota_axis, iota_axis, keep_word hb r q l, slot_emb s inb r q l]
  show (if BitVec.ofBool (decide (Keeps (256 * b + r.val) q.val l.val)) = 1#1 then _ else _)
    = if Keeps (256 * b + r.val) q.val l.val then W (ix3 (n0 := 2048) (n1 := 64) (n2 := 128) (rowAt b r) q l) else _
  by_cases hk : Keeps (256 * b + r.val) q.val l.val
  · rw [if_pos hk, decide_eq_true hk, if_pos (show BitVec.ofBool true = 1#1 from rfl)]
    have hq : 8 * b ≤ q.val := by
      have hl := l.isLt
      have hk' : 256 * b + r.val ≤ q.val / 4 * 128 + l.val := hk
      omega
    exact hL r q l hq
  · rw [if_neg hk, decide_eq_false hk, if_neg (by decide)]

end Cert.Kernel.Slots

end
-- ==== Proof.KernelRing.lean ====
/- What the kernel holds of its two slots between operations, and the two operations on them: starting the
   transfer of a block into a slot that is free, and waiting for it. -/
module

public import proofs.«01_k».proof.Proof.KernelSlots

@[expose] public section

set_option maxRecDepth 16384

noncomputable section

namespace Cert.Kernel.Slots

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

/-- The semaphore of slot `s`. -/
def cell (s : Fin 2) : DmaSem sig := (![2, 3] : Fin 2 → DmaSem sig) s

/-- What a transfer of `n` columns credits. -/
abbrev amt (n : ℕ) : ℕ := cc0_scratch0.dmaCredit ⟨3, ![256, n, 128]⟩ .f32

/-- The operand is lent by share: its left half to slot 0, its right half to slot 1. -/
def half (s : Fin 2) : PosShare TreeShare := if s = 0 then fullShare.left else fullShare.right

theorem numel_pos {b : ℕ} (hb : b < 8) : 0 < (⟨3, ![256, 64 - 8 * b, 128]⟩ : Shape).numel := by
  have h : (⟨3, ![256, 64 - 8 * b, 128]⟩ : Shape).numel = 256 * ((64 - 8 * b) * (128 * 1)) := rfl
  omega

section Held
variable (c : Dev nD) (W : Operand F c) (s : Fin 2)

/-- Slot `s` held at contents `f`. -/
abbrev slotAt (f : Scratch F c) : sProp 𝕄 := ((c : Thread nD τ).loc cc0_scratch0) ↦[slotSet s]{fullShare} f
/-- Slot `s`'s share of the operand's elements `T`. -/
abbrev operandOn (T : Finset S2048x64x128.Idx) : sProp 𝕄 := ((c : Thread nD τ).loc main_v2) ↦[T]{half s} W
/-- Slot `s` free: its semaphore at zero, the slot at anything, its share of the operand whole. -/
def free : sProp 𝕄 :=
  iprop(semVal ((c : Thread nD τ), SemLoc.dma (cell s)) 0 ∗ (∃ f, slotAt c s f) ∗ operandOn c W s Finset.univ)
/-- Block `b` in flight into slot `s`: the transfer delivers the slot with the block landed, and the part of the
    operand it borrowed; the rest of the operand's share stays in hand. -/
def flying (b : ℕ) : sProp 𝕄 :=
  iprop(∃ f T, ⌜Landed c W s b f⌝
    ∗ Transfers.Flight countersEmb (c : Thread nD τ) (SemLoc.dma (cell s)) default (amt (64 - 8 * b)) iprop(slotAt c s f ∗ operandOn c W s T)
    ∗ operandOn c W s (Finset.univ \ T))
/-- Block `b` landed in slot `s` and waited for. -/
def ready (b : ℕ) : sProp 𝕄 :=
  iprop(∃ f, ⌜Landed c W s b f⌝ ∗ semVal ((c : Thread nD τ), SemLoc.dma (cell s)) 0 ∗ slotAt c s f ∗ operandOn c W s Finset.univ)

/-- A slot read is free again. -/
theorem ready_free (b : ℕ) : (ready c W s b : sProp 𝕄) ⊢ free c W s := by
  unfold ready free
  iintro ⟨%f, -, Hc, Hs, Ho⟩
  isplitl [Hc]; · iexact Hc
  isplitl [Hs]; · iexists f; iexact Hs
  iexact Ho

theorem operandOn_split (T : Finset S2048x64x128.Idx) :
    (operandOn c W s Finset.univ : sProp 𝕄) ⊣⊢ iprop(operandOn c W s T ∗ operandOn c W s (Finset.univ \ T)) :=
  pointsTo_split_subset (Finset.subset_univ T)

end Held

section Steps
variable {c : Dev nD} {W : Operand F c}

set_option maxHeartbeats 800000 in
/-- STARTING block `b` into a free slot `s` leaves it in flight there. -/
theorem wp_start (s : Fin 2) (b n : ℕ) (hb : b < 8) (hn : n = 64 - 8 * b)
    {o : Fin 4 → ℕ} {inb hq} {o' : Fin 3 → ℕ} {inb'} {sem : DmaSem sig} {h₁ h₂ h₃}
    {α : Type} {Q : α → sProp 𝕄} {k : PUnit → Prog (TpuEff nD τ sig (Elt F) Λ₀ .tc) α} {P R : sProp 𝕄}
    (ho : o = ![s.val, 0, 8 * b, 0]) (ho' : o' = ![256 * b, 8 * b, 0]) (hsem : sem = cell s)
    (hP : P ⊢ iprop(free c W s ∗ R))
    (hk : iprop(flying c W s b ∗ R) ⊢ wp frame (wpE (defs₀ (F := F)) Variants.none (c : Thread nD τ) none) Set.univ (k ⟨⟩) Q) :
    P ⊢ wp frame (wpE (defs₀ (F := F)) Variants.none (c : Thread nD τ) none) Set.univ
      (.op (.enqueueDma (srcWin n o' inb') (.here (dstWin n o inb hq)) (.dma sem) h₁ h₂ h₃) k) Q := by
  subst hsem hn
  refine hP.trans ?_
  unfold free
  iintro ⟨⟨Hc, ⟨%f, Hs⟩, Ho⟩, HR⟩
  ihave Ho' := (operandOn_split c W s (srcWin (64 - 8 * b) o' inb').view.set).1 $$ Ho
  icases Ho' with ⟨Hl, Hr⟩
  iapply (Transfers.wp_dmaLocal (Ix := Unit) (Name := ℕ) (U := Pipeline.UD sig nD τ) (Lvl := ℕ) countersEmb Variants.none (c : Thread nD τ) none (defs := defs₀ (F := F)) (Sd := slotSet s) (fd := f) (fs := W) (q := half s)
    (src := srcWin (64 - 8 * b) o' inb') (dst := dstWin (64 - 8 * b) o inb hq) (via := ReadAs.same)
    default (amt (64 - 8 * b)) rfl (View.amount_pos (dstWin (64 - 8 * b) o inb hq).view (SemLoc.dma (cell s)) (numel_pos hb)) (dstWin_subset (by rw [ho]; rfl) inb hq)) $$ [Hl Hs Hc]
  · isplitl [Hl]; · iexact Hl
    isplitl [Hs]; · iexact Hs
    iexact Hc
  iintro Hf
  iapply hk
  isplitr [HR]
  · unfold flying
    iexists _, (srcWin (64 - 8 * b) o' inb').view.set
    isplitr
    · ipureintro; exact landed_write hb rfl ho inb hq ho' inb' f
    isplitl [Hf]; · iexact Hf
    iexact Hr
  iexact HR

set_option maxHeartbeats 800000 in
/-- WAITING for block `b` in flight into slot `s` leaves it ready there. -/
theorem wp_await (s : Fin 2) (b n : ℕ) (hn : n = 64 - 8 * b)
    {o : Fin 4 → ℕ} {inb hq} {src : Memref sig .tc .hbm ⟨3, ![256, n, 128]⟩ .f32} {sem : DmaSem sig} {h₁ h₂}
    {α : Type} {Q : α → sProp 𝕄} {k : PUnit → Prog (TpuEff nD τ sig (Elt F) Λ₀ .tc) α} {P R : sProp 𝕄} (hsem : sem = cell s)
    (hP : P ⊢ iprop(flying c W s b ∗ (∃ Wt, owes (c : Thread nD τ) 0 Wt) ∗ R))
    (hk : iprop(ready c W s b ∗ (∃ Wt, owes (c : Thread nD τ) 0 Wt) ∗ R) ⊢ wp frame (wpE (defs₀ (F := F)) Variants.none (c : Thread nD τ) none) Set.univ (k ⟨⟩) Q) :
    P ⊢ wp frame (wpE (defs₀ (F := F)) Variants.none (c : Thread nD τ) none) Set.univ
      (.op (.waitDma2 sem src (dstWin n o inb hq) h₁ h₂) k) Q := by
  subst hsem hn
  refine hP.trans ?_
  unfold flying
  iintro ⟨⟨%f, %T, %hL, Hf, Hr⟩, ⟨%Wt, HW⟩, HR⟩
  iapply (Transfers.wp_waitLocal (Ix := Unit) (Name := ℕ) (U := Pipeline.UD sig nD τ) (Lvl := ℕ) countersEmb Variants.none (c : Thread nD τ) none (defs := defs₀ (F := F)) (dstw := dstWin (64 - 8 * b) o inb hq)
    default (N := amt (64 - 8 * b)) rfl) $$ [Hf HW]
  · isplitl [Hf]; · iexact Hf
    iexact HW
  iintro ⟨⟨Hs, Hl⟩, Hc, HW⟩
  iapply hk
  isplitr [HW HR]
  · unfold ready
    iexists f
    isplitr; · ipureintro; exact hL
    isplitl [Hc]; · iexact Hc
    isplitl [Hs]; · iexact Hs
    iapply (operandOn_split c W s T).2
    isplitl [Hl]; · iexact Hl
    iexact Hr
  isplitl [HW]; · iexists _; iexact HW
  iexact HR

end Steps

end Cert.Kernel.Slots

end
-- ==== Proof.KernelStore.lean ====
/- The last operations of a grid point: load the slot the point's block landed in, load and overwrite the
   output's buffer with the masked block. -/
module

public import proofs.«01_k».proof.Proof.KernelMask
public import proofs.«01_k».proof.Proof.KernelRing

@[expose] public section

set_option maxRecDepth 16384

noncomputable section

namespace Cert.Kernel.Slots

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

/-- The rectangle that is a block whole. -/
abbrev blockRect (inb : ∀ a, (![0, 0, 0] : Fin 3 → ℕ) a + S256x64x128.size a ≤ S256x64x128.size a) : Rect S256x64x128 :=
  Rect.unit (s := S256x64x128) ![0, 0, 0] S256x64x128.size inb
/-- The rectangle that is a slot whole. -/
abbrev slotRect (o : Fin 4 → ℕ) (inb : ∀ a, o a + S1x256x64x128.size a ≤ S2x256x64x128.size a) : Rect S2x256x64x128 :=
  Rect.unit (s := S2x256x64x128) o S1x256x64x128.size inb

theorem blockRect_emb (inb) (i : S256x64x128.Idx) : (blockRect inb).emb i = i := by
  funext a
  refine Fin.ext ?_
  rw [Rect.emb_apply]
  fin_cases a
  · show 0 + 1 * (i 0).val = (i 0).val; omega
  · show 0 + 1 * (i 1).val = (i 1).val; omega
  · show 0 + 1 * (i 2).val = (i 2).val; omega

/-- Storing over the whole of a buffer leaves what was stored. -/
theorem read_store (a : Memref sig .tc .vmem S256x64x128 .f32) (inb) (f : a.view.ty.Contents (Elt F)) (w : Vec F S256x64x128 .f32) :
    a.view.read (Elt F) ((a.access (blockRect inb)).write (Elt F) f w Finset.univ) = w := by
  funext i
  conv_lhs => rw [← blockRect_emb inb i]
  exact View.read_slice_write_emb (v := a.view) (blockRect inb) f w (Finset.mem_univ i)

/-- The loaded rectangle lies within its slot. -/
theorem slotRect_subset {o : Fin 4 → ℕ} {s : Fin 2} (ho : o 0 = s.val) (inb) :
    ((Memref.whole cc0_scratch0).access (slotRect o inb)).set ⊆ slotSet s := by
  intro i hi
  have h := (Finset.ext_iff.1 (View.set_slice_whole cc0_scratch0 (slotRect o inb)) i).1 hi
  have h0 := (Rect.mem_set_unit.1 h) 0
  rw [mem_slotSet]
  simp only [ho, Matrix.cons_val_zero] at h0
  omega

set_option maxHeartbeats 800000 in
/-- THE STORE: with block `b` ready in slot `s`, the point ends with that slot free and the output's buffer holding block
    `b` of the result. -/
theorem wp_finish {c : Dev nD} {W : Operand F c} (s : Fin 2) (b : ℕ) (hb : b < 8) (a : Memref sig .tc .vmem S256x64x128 .f32)
    {o : Fin 4 → ℕ} {inb inb' h₁ h₂ h₃ h₄} {w : BitVec 32}
    {α : Type} {Q : α → sProp 𝕄} {k : Prog (TpuEff nD τ sig (Elt F) Λ₀ .tc) α} {P R : sProp 𝕄}
    (ho : o = ![s.val, 0, 0, 0]) (hw : w = BitVec.ofNat 32 b)
    (hP : P ⊢ iprop(ready c W s b ∗ (∃ d, owns (c : Thread nD τ) a fullShare d) ∗ R))
    (hk : iprop(free c W s ∗ owns (c : Thread nD τ) a fullShare (outBlk c W b) ∗ R)
      ⊢ wp frame (wpE (defs₀ (F := F)) Variants.none (c : Thread nD τ) none) Set.univ k Q) :
    P ⊢ wp frame (wpE (defs₀ (F := F)) Variants.none (c : Thread nD τ) none) Set.univ
      (.op (.load (Memref.whole cc0_scratch0) (slotRect o inb).toLoadRect h₁) fun v =>
        .op (.load a (blockRect inb').toLoadRect h₂) fun _ =>
          .op (.store a (blockRect inb') (k0_pay1 w v) Finset.univ h₃ h₄) fun _ => k) Q := by
  subst hw
  refine hP.trans ?_
  unfold ready owns
  iintro ⟨⟨%f, %hL, Hc, Hs, Ho⟩, ⟨%d, %g, -, Ha⟩, HR⟩
  iapply (wp_load_rect Variants.none (c : Thread nD τ) none Set.univ (slotRect_subset (by rw [ho]; rfl) inb)) $$ [Hs]
  · iexact Hs
  iintro Hs
  iapply (wp_load_rect Variants.none (c : Thread nD τ) none Set.univ (View.set_slice_subset (v := a.view) (blockRect inb'))) $$ [Ha]
  · iexact Ha
  iintro Ha
  iapply (wp_store Variants.none (c : Thread nD τ) none Set.univ (View.set_slice_subset (v := a.view) (blockRect inb'))) $$ [Ha]
  · iexact Ha
  iintro Ha
  iapply hk
  isplitl [Hc Hs Ho]
  · unfold free
    isplitl [Hc]; · iexact Hc
    isplitl [Hs]; · iexists f; iexact Hs
    iexact Ho
  isplitl [Ha]
  · unfold owns
    iexists _
    isplitr [Ha]
    · ipureintro
      exact (read_store a inb' g _).trans (pay_eq c W hb s hL ho inb)
    iexact Ha
  iexact HR

end Cert.Kernel.Slots

end
-- ==== Proof.KernelBody.lean ====
/- One grid point run: it starts the next block's transfer, waits for its own, and stores its block. -/
module

public import proofs.«01_k».proof.Proof.KernelStore

@[expose] public section

set_option maxRecDepth 16384
set_option synthInstance.maxSize 4096

noncomputable section

namespace Cert.Kernel.Slots

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

/-! ## Which branches a point takes -/

/-- The first point starts block 0; every point but the last starts a block more. -/
theorem start_conds : ∀ t : Fin grid0.N, (k0_cond1 (grid0.coords t) = 1#1 ↔ t.val = 0) ∧ (k0_cond2 (grid0.coords t) = 1#1 ↔ t.val + 1 < 8) := by
  decide +kernel

/-- The cascade that starts a block branches on the block's number. -/
theorem next_conds : ∀ t : Fin grid0.N,
    (k0_cond3 (grid0.coords t) = 1#1 ↔ t.val + 1 = 0) ∧ (k0_cond4 (grid0.coords t) = 1#1 ↔ t.val + 1 = 1)
    ∧ (k0_cond5 (grid0.coords t) = 1#1 ↔ t.val + 1 = 2) ∧ (k0_cond6 (grid0.coords t) = 1#1 ↔ t.val + 1 = 3)
    ∧ (k0_cond7 (grid0.coords t) = 1#1 ↔ t.val + 1 = 4) ∧ (k0_cond8 (grid0.coords t) = 1#1 ↔ t.val + 1 = 5)
    ∧ (k0_cond9 (grid0.coords t) = 1#1 ↔ t.val + 1 = 6) ∧ (k0_cond10 (grid0.coords t) = 1#1 ↔ t.val + 1 = 7) := by
  decide +kernel

/-- The cascade that waits branches on the point's own number. -/
theorem await_conds : ∀ t : Fin grid0.N,
    (k0_cond11 (grid0.coords t) = 1#1 ↔ t.val = 0) ∧ (k0_cond12 (grid0.coords t) = 1#1 ↔ t.val = 1)
    ∧ (k0_cond13 (grid0.coords t) = 1#1 ↔ t.val = 2) ∧ (k0_cond14 (grid0.coords t) = 1#1 ↔ t.val = 3)
    ∧ (k0_cond15 (grid0.coords t) = 1#1 ↔ t.val = 4) ∧ (k0_cond16 (grid0.coords t) = 1#1 ↔ t.val = 5)
    ∧ (k0_cond17 (grid0.coords t) = 1#1 ↔ t.val = 6) ∧ (k0_cond18 (grid0.coords t) = 1#1 ↔ t.val = 7) := by
  decide +kernel

/-! ## The slots between points -/

/-- The slot of block `b`. -/
def slotOf (b : ℕ) : Fin 2 := ⟨b % 2, Nat.mod_lt _ (by decide)⟩

theorem cell_inb : ∀ (s : Fin 2) (x : Fin 1), (![s.val] : Fin 1 → ℕ) x + S1.size x ≤ S2.size x := by decide

/-- An element of the pair of semaphores is the semaphore of the slot it is at. -/
theorem cell_of (s : Fin 2) {o : Fin 1 → ℕ} (ho : o = ![s.val]) (inb) :
    ((cc0_scratch1.slice (Rect.unit (s := S2) o S1.size inb)).squeeze S_ squeezes_S1_S_).sem = cell s := by
  subst ho
  have h : ∀ s : Fin 2, ((cc0_scratch1.slice (Rect.unit (s := S2) ![s.val] S1.size (cell_inb s))).squeeze S_ squeezes_S1_S_).sem = cell s := by
    decide +kernel
  exact h s

/-- The two slots before point `t`: both free before the first and after the last; otherwise block `t` in flight into its
    slot, the other free. -/
def slotsAt (c : Dev nD) (W : Operand F c) (t : ℕ) : sProp 𝕄 :=
  if t = 0 ∨ t = 8 then iprop(free c W (slotOf t) ∗ free c W (slotOf (t + 1)))
  else iprop(flying c W (slotOf t) t ∗ free c W (slotOf (t + 1)))

theorem slotsAt_ends (c : Dev nD) (W : Operand F c) {t : ℕ} (ht : t = 0 ∨ t = 8) :
    (slotsAt c W t : sProp 𝕄) = iprop(free c W (slotOf t) ∗ free c W (slotOf (t + 1))) := if_pos ht

theorem slotsAt_inner (c : Dev nD) (W : Operand F c) {t : ℕ} (h0 : 0 < t) (h8 : t < 8) :
    (slotsAt c W t : sProp 𝕄) = iprop(flying c W (slotOf t) t ∗ free c W (slotOf (t + 1))) := if_neg (by omega)

/-- Two points on, the slot is the same. -/
theorem slotOf_add_two (b : ℕ) : slotOf (b + 1 + 1) = slotOf b := Fin.ext (by show (b + 1 + 1) % 2 = b % 2; omega)

/-- After a point that is not the last, its slot is free and the next block in flight; -/
theorem slotsAt_succ (c : Dev nD) (W : Operand F c) {t : ℕ} (ht : t + 1 < 8) :
    iprop(free c W (slotOf t) ∗ flying c W (slotOf (t + 1)) (t + 1)) ⊢ (slotsAt c W (t + 1) : sProp 𝕄) := by
  rw [slotsAt_inner c W (by omega) ht, slotOf_add_two]
  iintro ⟨H, K⟩
  isplitl [K]; · iexact K
  iexact H

/-- after the last, both are free. -/
theorem slotsAt_last (c : Dev nD) (W : Operand F c) {t : ℕ} (ht : t + 1 = 8) :
    iprop(free c W (slotOf t) ∗ free c W (slotOf (t + 1))) ⊢ (slotsAt c W (t + 1) : sProp 𝕄) := by
  rw [slotsAt_ends c W (.inr ht), slotOf_add_two]
  iintro ⟨H, K⟩
  isplitl [K]; · iexact K
  iexact H

section Run
variable (c : Dev nD) (W : Operand F c) (t : Fin grid0.N) (a : Memref sig .tc .vmem S256x64x128 .f32)

/-- What a point needs besides its slots: the output's buffer, and the core's record of waits. -/
abbrev Rest : sProp 𝕄 := iprop((∃ d, owns (c : Thread nD τ) a fullShare d) ∗ (∃ Wt, owes (c : Thread nD τ) 0 Wt))

/-- What a point leaves. -/
abbrev After : sProp 𝕄 :=
  iprop(slotsAt c W (t.val + 1) ∗ owns (c : Thread nD τ) a fullShare (outBlk c W t.val) ∗ (∃ Wt, owes (c : Thread nD τ) 0 Wt))

set_option maxHeartbeats 1600000 in
/-- THE END OF A POINT: the wait for its block, then the store, with `X` what the other slot holds. -/
theorem wp_end {X : sProp 𝕄} (hX : iprop(free c W (slotOf t.val) ∗ X) ⊢ slotsAt c W (t.val + 1)) (n : ℕ) (hn : n = 64 - 8 * t.val) (ht : t.val < 8)
    {o₁ : Fin 4 → ℕ} {inb₁ hq} {src : Memref sig .tc .hbm ⟨3, ![256, n, 128]⟩ .f32} {sem : DmaSem sig} {h₁ h₂}
    {o : Fin 4 → ℕ} {inb inb'} {h₃ : (Memref.whole cc0_scratch0).view.LoadsAt (slotRect o inb).toLoadRect}
    {h₄ : a.view.LoadsAt (blockRect inb').toLoadRect} {h₅ : (a.access (blockRect inb')).Stores Finset.univ}
    {h₆ : Finset.univ = Finset.univ ∨ ∀ x, (blockRect inb').stride x = 1} {w : BitVec 32}
    (hsem : sem = cell (slotOf t.val)) (ho : o = ![(slotOf t.val).val, 0, 0, 0]) (hw : w = BitVec.ofNat 32 t.val) :
    iprop(flying c W (slotOf t.val) t.val ∗ X ∗ Rest c a)
      ⊢ wp frame (wpE (defs₀ (F := F)) Variants.none (c : Thread nD τ) none) Set.univ
        (.op (.waitDma2 sem src (dstWin n o₁ inb₁ hq) h₁ h₂) fun _ =>
          .op (.load (Memref.whole cc0_scratch0) (slotRect o inb).toLoadRect h₃) fun v =>
            .op (.load a (blockRect inb').toLoadRect h₄) fun _ =>
              .op (.store a (blockRect inb') (k0_pay1 w v) Finset.univ h₅ h₆) fun _ => .ret ⟨⟩)
        (fun _ : PUnit => After c W t a) := by
  refine wp_await (W := W) (slotOf t.val) t.val n hn (R := iprop(X ∗ ∃ d, owns (c : Thread nD τ) a fullShare d)) hsem ?_ ?_
  · iintro ⟨Hf, HX, Ha, HW⟩
    isplitl [Hf]; · iexact Hf
    isplitl [HW]; · iexact HW
    isplitl [HX]; · iexact HX
    iexact Ha
  refine wp_finish (W := W) (slotOf t.val) t.val ht a (R := iprop(X ∗ ∃ Wt, owes (c : Thread nD τ) 0 Wt)) ho hw ?_ ?_
  · iintro ⟨Hr, HW, HX, Ha⟩
    isplitl [Hr]; · iexact Hr
    isplitl [Ha]; · iexact Ha
    isplitl [HX]; · iexact HX
    iexact HW
  refine .trans ?_ (le_wp_ret _ _ _ _ _)
  iintro ⟨Hs, Ha, HX, HW⟩
  isplitl [Hs HX]
  · iapply hX
    isplitl [Hs]; · iexact Hs
    iexact HX
  isplitl [Ha]; · iexact Ha
  iexact HW

set_option maxHeartbeats 1600000 in
/-- THE NEXT BLOCK: a point that is not the last, with its own block in flight, starts the next one into the other slot. -/
theorem wp_next (n : ℕ) (hn : n = 64 - 8 * (t.val + 1)) (ht : t.val + 1 < 8)
    {o : Fin 4 → ℕ} {inb hq} {o' : Fin 3 → ℕ} {inb'} {sem : DmaSem sig} {h₁ h₂ h₃}
    {k : PUnit → Prog (TpuEff nD τ sig (Elt F) Λ₀ .tc) PUnit}
    (ho : o = ![(slotOf (t.val + 1)).val, 0, 8 * (t.val + 1), 0]) (ho' : o' = ![256 * (t.val + 1), 8 * (t.val + 1), 0])
    (hsem : sem = cell (slotOf (t.val + 1)))
    (hk : iprop(flying c W (slotOf t.val) t.val ∗ flying c W (slotOf (t.val + 1)) (t.val + 1) ∗ Rest c a)
      ⊢ wp frame (wpE (defs₀ (F := F)) Variants.none (c : Thread nD τ) none) Set.univ (k ⟨⟩) (fun _ => After c W t a)) :
    iprop(flying c W (slotOf t.val) t.val ∗ free c W (slotOf (t.val + 1)) ∗ Rest c a)
      ⊢ wp frame (wpE (defs₀ (F := F)) Variants.none (c : Thread nD τ) none) Set.univ
        (.op (.enqueueDma (srcWin n o' inb') (.here (dstWin n o inb hq)) (.dma sem) h₁ h₂ h₃) k) (fun _ => After c W t a) := by
  refine wp_start (W := W) (slotOf (t.val + 1)) (t.val + 1) n ht hn (R := iprop(flying c W (slotOf t.val) t.val ∗ Rest c a)) ho ho' hsem ?_ ?_
  · iintro ⟨Hf, Hs, HR⟩
    isplitl [Hs]; · iexact Hs
    isplitl [Hf]; · iexact Hf
    iexact HR
  · refine .trans ?_ hk
    iintro ⟨Hs, Hf, HR⟩
    isplitl [Hf]; · iexact Hf
    isplitl [Hs]; · iexact Hs
    iexact HR

set_option maxHeartbeats 4000000 in
/-- A POINT RUN: from the slots before it to the slots after it, the output's buffer ending as the point's block. -/
theorem body_run (ha : a.IsWhole) :
    iprop(slotsAt c W t.val ∗ Rest c a)
      ⊢ wp frame (wpE (defs₀ (F := F)) Variants.none (c : Thread nD τ) none) Set.univ
        (cc0__mask_kernel (grid0.coords t) (Memref.whole main_v2) (Memref.isWhole_whole _) a ha (Memref.whole cc0_scratch0) (Memref.isWhole_whole _) cc0_scratch1)
        (fun _ => After c W t a) := by
  obtain ⟨s1, s2⟩ := start_conds t
  obtain ⟨n0, n1, n2, n3, n4, n5, n6, n7⟩ := next_conds t
  obtain ⟨a0, a1, a2, a3, a4, a5, a6, a7⟩ := await_conds t
  rw [cc0__mask_kernel_eq_skeleton]; unfold cc0__mask_kernel_skel
  rw [k0_part1_eq_skeleton]; unfold k0_part1_skel
  have hin : 0 < t.val → t.val < 8 → (iprop(slotsAt c W t.val ∗ Rest c a) : sProp 𝕄)
      ⊢ iprop(flying c W (slotOf t.val) t.val ∗ free c W (slotOf (t.val + 1)) ∗ Rest c a) := fun h0 h8 => by
    rw [slotsAt_inner c W h0 h8]; exact sep_assoc.1
  -- the straight line of operations each point takes
  rcases fin_N0 t with h | h | h | h | h | h | h | h
  all_goals
    have e := congrArg Fin.val h
    simp only [t0_0, t0_1, t0_2, t0_3, t0_4, t0_5, t0_6, t0_7] at e
    simp only [e, Nat.reduceAdd, Nat.reduceEqDiff, Nat.reduceLT, iff_false, iff_true, OfNat.ofNat_ne_zero, Nat.lt_irrefl, zero_ne_one, one_ne_zero, OfNat.ofNat_ne_one, OfNat.zero_ne_ofNat, OfNat.one_ne_ofNat, zero_add] at s1 s2 n0 n1 n2 n3 n4 n5 n6 n7 a0 a1 a2 a3 a4 a5 a6 a7
    simp only [s1, s2, n0, n1, n2, n3, n4, n5, n6, n7, a0, a1, a2, a3, a4, a5, a6, a7, ↓reduceDIte, Prog.pure_eq_ret, Prog.bind_lift, Prog.bind_op, Prog.bind_ret]
  -- before the first point both slots are free: it starts block 0
  · refine wp_start (W := W) (slotOf t.val) t.val _ (by omega) (by rw [e]) (R := iprop(free c W (slotOf (t.val + 1)) ∗ Rest c a))
      (by subst h; decide +kernel) (by subst h; decide +kernel) (cell_of _ (by subst h; decide +kernel) _)
      (by rw [slotsAt_ends c W (.inl e)]; exact sep_assoc.1) ?_
    refine wp_next c W t a _ (by rw [e]) (by omega) (by subst h; decide +kernel) (by subst h; decide +kernel) (cell_of _ (by subst h; decide +kernel) _) ?_
    exact wp_end c W t a (slotsAt_succ c W (by omega)) _ (by rw [e]) (by omega) (cell_of _ (by subst h; decide +kernel) _) (by subst h; decide +kernel) (by subst h; decide +kernel)
  -- before any other, its block is in flight: all but the last start the next one
  all_goals refine (hin (by omega) (by omega)).trans ?_
  on_goal 7 =>
    exact wp_end c W t a (slotsAt_last c W (by omega)) _ (by rw [e]) (by omega) (cell_of _ (by subst h; decide +kernel) _) (by subst h; decide +kernel) (by subst h; decide +kernel)
  all_goals
    refine wp_next c W t a _ (by rw [e]) (by omega) (by subst h; decide +kernel) (by subst h; decide +kernel) (cell_of _ (by subst h; decide +kernel) _) ?_
    exact wp_end c W t a (slotsAt_succ c W (by omega)) _ (by rw [e]) (by omega) (cell_of _ (by subst h; decide +kernel) _) (by subst h; decide +kernel) (by subst h; decide +kernel)

end Run

end Cert.Kernel.Slots

end
-- ==== Proof.KernelLaunch.lean ====
/- The launch: the grid's points run one after another between @main's host lines, and every execution ends
   with the argument unchanged, every semaphore at zero and the region's array at what the points stored. -/
module

public import proofs.«01_k».proof.Proof.KernelBody
public import Idealize.ShloMosaic.Lib.Claim

@[expose] public section

set_option maxRecDepth 16384

noncomputable section

namespace Cert.Kernel.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds outside the pipeline's windows -/

/-- The kernel's own semaphores. -/
abbrev ownSem : Fin 2 → SemLoc sig := fun s => SemLoc.dma (cell s)
theorem ownSem_facts : Pipeline.OwnSemFacts spec0 ownSem := by decide

/-- The one array the kernel copies from itself. -/
def moved : Finset (Ref sig .tc) := {main_v2}
theorem moved_sub : moved ⊆ Pipeline.restRefs sig spec0 := by decide

theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma (cell 0)) 0 ∗ semVal ((c : Thread nD τ), SemLoc.dma (cell 1)) 0) := by
  rw [Pipeline.ownSems0_eq_of_list c ownSem [0, 1] (by decide) (by decide)]; rfl

theorem moved_eq (c : Dev nD) :
    (bigSep moved (fun b => ((c : Thread nD τ).loc b) ↦{fullShare} V m c b) : sProp 𝕄)
      = iprop(((c : Thread nD τ).loc main_v2) ↦{fullShare} V m c main_v2) := by
  rw [BI.bigSep_eq_bigSepL_of_eq [main_v2] (by decide) (by decide)]; rfl

/-- What the region's invariant is at the region's two ends, part by part. -/
theorem ends_eq (c : Dev nD) :
    (Pipeline.ΦD ownSem spec0 moved (V m) c : sProp 𝕄)
      = iprop((∃ d, ((c : Thread nD τ).loc cc0_scratch0) ↦{fullShare} d) ∗ (∃ r, prngReg c r)
        ∗ (semVal ((c : Thread nD τ), SemLoc.dma (cell 0)) 0 ∗ semVal ((c : Thread nD τ), SemLoc.dma (cell 1)) 0)
        ∗ ((c : Thread nD τ).loc main_v2) ↦{fullShare} V m c main_v2) := by
  rw [Pipeline.ΦD_eq, scopedRest0_eq, ownSems_eq, moved_eq]

/-! ## The slots made, and taken apart -/

/-- The scratch at anything is its two slots at anything; -/
theorem scratch_split (c : Dev nD) :
    (iprop(∃ d, ((c : Thread nD τ).loc cc0_scratch0) ↦{fullShare} d) : sProp 𝕄) ⊢ iprop((∃ f, slotAt (F := F) c 0 f) ∗ ∃ f, slotAt (F := F) c 1 f) :=
  Ring.slots2_split (U := Pipeline.UD sig nD τ) (ℓ := (c : Thread nD τ).loc cc0_scratch0) (q := fullShare) slotSet slots_disjoint slots_cover
    (slotAt c 0) (slotAt c 1) (fun _ => rfl) (fun _ => rfl)
/-- and back. -/
theorem scratch_join (c : Dev nD) :
    (iprop((∃ f, slotAt (F := F) c 0 f) ∗ ∃ f, slotAt (F := F) c 1 f) : sProp 𝕄) ⊢ iprop(∃ d, ((c : Thread nD τ).loc cc0_scratch0) ↦{fullShare} d) :=
  Ring.slots2_join (U := Pipeline.UD sig nD τ) (ℓ := (c : Thread nD τ).loc cc0_scratch0) (q := fullShare) slotSet slots_disjoint slots_cover
    (slotAt c 0) (slotAt c 1) (fun _ => rfl) (fun _ => rfl)

/-- The operand whole is the two slots' shares of it. -/
theorem operand_halves (c : Dev nD) (W : Operand F c) :
    (iprop(((c : Thread nD τ).loc main_v2) ↦{fullShare} W) : sProp 𝕄) ⊣⊢ iprop(operandOn c W 0 Finset.univ ∗ operandOn c W 1 Finset.univ) :=
  pointsTo_share (PosShare.mem_left_op_right fullShare)

/-- The scratch, the semaphores at zero and the operand, as two free slots, and back. -/
theorem free_both (c : Dev nD) (W : Operand F c) :
    (iprop((∃ d, ((c : Thread nD τ).loc cc0_scratch0) ↦{fullShare} d)
        ∗ (semVal ((c : Thread nD τ), SemLoc.dma (cell 0)) 0 ∗ semVal ((c : Thread nD τ), SemLoc.dma (cell 1)) 0)
        ∗ ((c : Thread nD τ).loc main_v2) ↦{fullShare} W) : sProp 𝕄) ⊣⊢ iprop(free c W 0 ∗ free c W 1) := by
  unfold free
  constructor
  · iintro ⟨HS, ⟨H0, H1⟩, HW⟩
    ihave HS' := (scratch_split (F := F) c) $$ HS
    icases HS' with ⟨HS0, HS1⟩
    ihave HW' := (operand_halves c W).1 $$ HW
    icases HW' with ⟨HW0, HW1⟩
    isplitl [H0 HS0 HW0]
    · isplitl [H0]; · iexact H0
      isplitl [HS0]; · iexact HS0
      iexact HW0
    · isplitl [H1]; · iexact H1
      isplitl [HS1]; · iexact HS1
      iexact HW1
  · iintro ⟨⟨H0, HS0, HW0⟩, H1, HS1, HW1⟩
    isplitl [HS0 HS1]
    · iapply (scratch_join (F := F) c)
      isplitl [HS0]; · iexact HS0
      iexact HS1
    isplitl [H0 H1]
    · isplitl [H0]; · iexact H0
      iexact H1
    iapply (operand_halves c W).2
    isplitl [HW0]; · iexact HW0
    iexact HW1

/-! ## The pipeline's data and the body's obligation -/

/-- Before point `k`: the generator's register at some state, and the slots. -/
def invAt (c : Dev nD) (k : ℕ) : sProp 𝕄 := iprop((∃ r, prngReg c r) ∗ slotsAt c (V m c main_v2) k)

/-- The region's data: its array as the host lines before left it, block `t` of the result after point `t`. -/
def dats (_ : Fin 1) (c : Dev nD) : Dat τ (Elt F) Unit ℕ (Pipeline.UD sig nD τ) ℕ cfg0 c where
  A w := V m c (Pipeline.arrRef spec0 w)
  after w t := match w with
    | ⟨0, _⟩ => outBlk c (V m c main_v2) t.val
  Φ t := invAt m c t.val
  q _ := fullShare
  owed _ := 0

theorem A_eq (c : Dev nD) (w : Fin cfg0.W) : (dats m 0 c).A w = V m c (Pipeline.arrRef spec0 w) := by
  dsimp only [dats]
theorem after_eq (c : Dev nD) (t : Fin cfg0.N) : (dats m 0 c).after 0 t = outBlk c (V m c main_v2) t.val := by
  dsimp only [dats]
theorem inv_before (c : Dev nD) (t : Fin cfg0.N) : (dats m 0 c).Φ t.castSucc = invAt m c t.val := by
  dsimp only [dats]; simp only [Fin.coe_castSucc]
theorem inv_after (c : Dev nD) (t : Fin cfg0.N) : (dats m 0 c).Φ t.succ = invAt m c (t.val + 1) := by
  dsimp only [dats]; simp only [Fin.val_succ]

/-- The output's buffer at point `t`. -/
abbrev outBuf (t : Fin cfg0.N) : Memref sig .tc .vmem S256x64x128 .f32 := win0_0.stage (cfg0.slots t 0)

/-- What the pipeline calls the body with, -/
def before (c : Dev nD) (t : Fin cfg0.N) : sProp 𝕄 :=
  iprop((dats m 0 c).Φ t.castSucc ∗ (dats m 0 c).owesAt () t.castSucc ∗ (∃ d, owns (c : Thread nD τ) (outBuf t) fullShare ((dats m 0 c).before 0 t d)))
/-- and what it takes back. -/
def returned (c : Dev nD) (t : Fin cfg0.N) : sProp 𝕄 :=
  iprop((dats m 0 c).Φ t.succ ∗ (dats m 0 c).owesAt () t.succ ∗ owns (c : Thread nD τ) (outBuf t) fullShare ((dats m 0 c).after 0 t))

set_option maxHeartbeats 1200000 in
/-- The body meets the pipeline's triple at every point. -/
theorem body_triple (c : Dev nD) (t : Fin cfg0.N) :
    before m c t ⊢ wp frame (wpE (defs₀ (F := F)) Variants.none (c : Thread nD τ) none) Set.univ (bodyAt0 t) (fun _ => returned m c t) := by
  unfold before returned
  rw [after_eq, inv_before m c t, inv_after m c t]
  unfold Dat.owesAt Pipeline.owesWithin invAt
  rw [show (dats m 0 c).owed t.castSucc = 0 from rfl, show (dats m 0 c).owed t.succ = 0 from rfl]
  iintro ⟨⟨Hg, Hs⟩, ⟨%Wt, -, HW⟩, ⟨%d, Ha⟩⟩
  iapply (wp_wand frame (wpE (defs₀ (F := F)) Variants.none (c : Thread nD τ) none) Set.univ (Q := fun _ => After c (V m c main_v2) t (outBuf t))) $$ [Hs HW Ha]
  · iapply (body_run c (V m c main_v2) t (outBuf t) (hstage0_0 ((cfg0.slots t 0).cast nbuf0_0)))
    isplitl [Hs]; · iexact Hs
    isplitl [Ha]; · iexists _; iexact Ha
    iexists _; iexact HW
  iintro %_ ⟨Hs, Ha, ⟨%W', HW⟩⟩
  isplitl [Hg Hs]
  · isplitl [Hg]; · iexact Hg
    iexact Hs
  isplitl [HW]
  · iexists W'
    isplitr; · ipureintro; exact fun _ _ => Or.inl trivial
    iexact HW
  iexact Ha

/-- The table's row at point `t` is the body there. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_triple m c t) rfl .rfl fun _ => .rfl

/-- Into the region, -/
theorem enter (c : Dev nD) : Pipeline.ΦD ownSem spec0 moved (V m) c ⊢ (dats m 0 c).Φ 0 := by
  rw [ends_eq, show (dats m 0 c).Φ 0 = invAt m c 0 from rfl]
  unfold invAt
  rw [slotsAt_ends c _ (.inl rfl)]
  iintro ⟨HS, Hg, Hc, HW⟩
  isplitl [Hg]; · iexact Hg
  iapply (free_both c (V m c main_v2)).1
  isplitl [HS]; · iexact HS
  isplitl [Hc]; · iexact Hc
  iexact HW
/-- and out of it. -/
theorem leave (c : Dev nD) : (dats m 0 c).Φ (Fin.last cfg0.N) ⊢ Pipeline.ΦD ownSem spec0 moved (V m) c := by
  rw [ends_eq, show (dats m 0 c).Φ (Fin.last cfg0.N) = invAt m c grid0.N from rfl]
  unfold invAt
  rw [N_0, slotsAt_ends c _ (.inr rfl), show slotOf 8 = 0 from rfl, show slotOf (8 + 1) = 1 from rfl]
  iintro ⟨Hg, Hf⟩
  ihave H := (free_both c (V m c main_v2)).2 $$ Hf
  icases H with ⟨HS, Hc, HW⟩
  isplitl [HS]; · iexact HS
  isplitl [Hg]; · iexact Hg
  isplitl [Hc]; · iexact Hc
  iexact HW

/-! ## @main -/

set_option maxHeartbeats 800000 in
/-- @main is the host lines before the region, the region, and the host lines after it. -/
theorem main_around (𝒱₀ : Variants) : Pipeline.HMainK (Ix := Unit) (Name := ℕ) (U := Pipeline.UD sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host lines after the region leave the operand alone. -/
theorem after_but : ∀ ops ∈ ([hostOps1] : List (List (HloOp τ sig (Elt F)))), ∀ op ∈ ops,
    op.bufs ⊆ Pipeline.tailRefsBut sig Pipeline.Prefetch.none spec0 moved := by
  intro ops hops op hop
  obtain rfl := List.mem_singleton.1 hops
  refine Pipeline.sub_tailRefsBut Pipeline.Prefetch.none spec0 moved op ((List.forall_iff_forall_mem.mp hostOps1_sub) op hop) (fun j => j.elim0) ?_
  intro b hb
  obtain rfl := Finset.mem_singleton.1 hb
  simp only [hostOps1, List.mem_cons, List.mem_nil_iff, or_false] at hop
  rcases hop with rfl | rfl | rfl
  all_goals
    simp only [StableHlo.unary_bufs, StableHlo.reshape_bufs, Finset.mem_insert, Finset.mem_singleton, not_or]
    and_intros <;> exact StableHlo.devRef_ne_of_ne (by decide)

set_option backward.isDefEq.respectTransparency.types false in
set_option maxHeartbeats 800000 in
/-- THE LAUNCH: every execution ends with the region's array at what the points stored, every other buffer as the host
    lines leave it, and every semaphore at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSem_facts moved moved_sub m ρ main
    (hbody := fun c => (obligation m c).loose) (hshare := fun c => (dats m 0 c).share_full fun _ => rfl)
    (howed := fun _ _ => rfl) (V₀ := V0 m) (opss := [hostOps1]) (hsub := after_but) (hfresh := sfx_fresh) (hkeep := sfx_keeps)
    (hmain := main_around m Variants.none) (hA := A_eq m) (hin := enter m) (hout := leave m)

/-- The argument is no result of a host line: it ends as launched. -/
theorem arg_kept (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.unary_writes, StableHlo.reshape_writes, Finset.mem_singleton]
      and_intros <;> exact StableHlo.devRef_ne_of_ne (by decide))),
    Pipeline.withArrays_of_ne _ c (V0 m c) _ main_arg0 (by exact (by decide : ∀ w, Pipeline.arrRef spec0 w ≠ main_arg0))]
  exact V_main_arg0 m c

/-- THE FRAME: every execution ends with the argument unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h =>
    ⟨fun c => ((h.1 c).2 main_arg0 (Pipeline.mem_restRefs_of main_arg0 (by decide) (by decide))).trans (arg_kept m c), h.2⟩) (run m ρ)

end Cert.Kernel.Slots

end
-- ==== Proof.KernelArray.lean ====
/- What the region's array holds after the last point: the operand, masked row by row. -/
module

public import proofs.«01_k».proof.Proof.KernelLaunch
public import Idealize.ShloMosaic.Lib.Pipeline.ValueKit

@[expose] public section

set_option maxRecDepth 16384

noncomputable section

namespace Cert.Kernel.Slots

open Idealize.ShloMosaic Idealize.ShloMosaic.TcCoe Idealize.SL.Sem
open Idealize.ShloMosaic.Pipeline (Dat)
open Cert.Kernel.Gen

variable {F : FTy → Type} [FloatOps F]

/-- An array of the packed shape with every element off the kept triangle replaced by zero. -/
def masked (X : Vec F S2048x64x128 .f32) : Vec F S2048x64x128 .f32 := fun i =>
  if Keeps (i 0).val (i 1).val (i 2).val then X i else Scalar.ofBits .f32 0x00000000#32

/-- Block `t` of the region's array starts at row `256 * t`. -/
theorem block_at : ∀ t : Fin cfg0.N, win0_0.index t = ![t.val, 0, 0] ∧ t.val < 8 :=
  (by decide +kernel : ∀ t : Fin grid0.N, win0_0.index t = ![t.val, 0, 0] ∧ t.val < 8)

/-- What a point stores at a place of its block is the masked operand at the place of the array under it. -/
theorem outBlk_at (c : Dev nD) (X : Vec F S2048x64x128 .f32) (b : ℕ) (hb : b < 8) (y : S256x64x128.Idx)
    (i : S2048x64x128.Idx) (h0 : (i 0).val = b * 256 + (y 0).val) (h1 : (i 1).val = (y 1).val) (h2 : (i 2).val = (y 2).val) :
    outBlk c X b y = masked X i := by
  have hi : ValueIdx.ix3 (n0 := 2048) (n1 := 64) (n2 := 128) (rowAt b (y 0)) (y 1) (y 2) = i := by
    rw [ValueIdx.eq_ix3 i]
    congr 1 <;> apply Fin.ext
    · exact (rowAt_val hb _).trans (by rw [h0, Nat.mul_comm])
    · exact h1.symm
    · exact h2.symm
  unfold outBlk masked
  rw [hi, h0, h1, h2, Nat.mul_comm]

variable (m : (ℓ : Loc nD τ sig) → Buf (Elt F) ℓ)

/-- After the last point the region's array is the masked operand. -/
theorem array_eq (c : Dev nD) : (dats m 0 c).arrAt 0 (cfgs 0).N = masked (F := F) (V m c main_v2) := by
  refine (dats m 0 c).arrAt_eq_of_covers 0 _ (by decide +kernel) fun t _ y => ?_
  blk_simp
  rw [after_eq]
  have e := block_at t
  refine outBlk_at c _ t.val e.2 y _ ?_ ?_ ?_ <;> blk_simp [e.1] <;> simp

end Cert.Kernel.Slots

end
-- ==== Proof.Layout.lean ====
/- How the kernel's operand is laid out: the last two axes (column, channel) of the argument are packed as
   (column block and channel, column within the block), and its result is unpacked the other way round. -/
module

public import proofs.«01_k».proof.Proof.Gen.Kernel.Skeleton
public import Idealize.ShloMosaic.Lib.Pointwise

@[expose] public section

set_option maxRecDepth 16384

noncomputable section

namespace Cert.Kernel.Layout

open Idealize.ShloMosaic
open Cert.Kernel.Gen

variable {α : Type}

/-- The argument in the kernel's layout. -/
def packed (X : S2048x2048x4.Idx → α) : S2048x64x128.Idx → α :=
  shapeCast S2048x64x128 (transpose S2048x16x4x128 [0, 1, 3, 2] (shapeCast S2048x16x128x4 X shapeCasts_S2048x2048x4_S2048x16x128x4)
    transposes_S2048x16x128x4_S2048x16x4x128_0_1_3_2) shapeCasts_S2048x16x4x128_S2048x64x128

/-- An array of the kernel's layout in the layout of the argument. -/
def unpacked (Y : S2048x64x128.Idx → α) : S2048x2048x4.Idx → α :=
  shapeCast S2048x2048x4 (transpose S2048x16x128x4 [0, 1, 3, 2] (shapeCast S2048x16x4x128 Y shapeCasts_S2048x64x128_S2048x16x4x128)
    transposes_S2048x16x4x128_S2048x16x128x4_0_1_3_2) shapeCasts_S2048x16x128x4_S2048x2048x4

/-- Packed row `q` and lane `l` hold column `q / 4 * 128 + l` of channel `q % 4`. -/
theorem packed_at (X : S2048x2048x4.Idx → α) (r : Fin 2048) (q : Fin 64) (l : Fin 128) :
    packed X (ix3 r q l) = X (ix3 r ⟨q.val / 4 * 128 + l.val, by omega⟩ ⟨q.val % 4, by omega⟩) := by
  pointwise [packed]

/-- Column `j` of channel `k` comes from packed row `j / 128 * 4 + k` and lane `j % 128`. -/
theorem unpacked_at (Y : S2048x64x128.Idx → α) (r : Fin 2048) (j : Fin 2048) (k : Fin 4) :
    unpacked Y (ix3 r j k) = Y (ix3 r ⟨j.val / 128 * 4 + k.val, by omega⟩ ⟨j.val % 128, by omega⟩) := by
  pointwise [unpacked]

end Cert.Kernel.Layout

end
-- ==== Proof.KernelResult.lean ====
/- The kernel's result: the argument with every element below the diagonal of its first two axes replaced by zero. -/
module

public import proofs.«01_k».proof.Proof.KernelArray
public import proofs.«01_k».proof.Proof.Layout

@[expose] public section

set_option maxRecDepth 16384

noncomputable section

namespace Cert.Kernel.Slots

open Idealize.ShloMosaic Idealize.ShloMosaic.TcCoe Idealize.SL.Sem Idealize.ShloMosaic.StableHlo
open Cert.Kernel.Gen Cert.Kernel.Layout

variable {F : FTy → Type} [FloatOps F]

/-- The upper triangle: the element at row `r`, column `j` and channel `k` where `r ≤ j`, zero elsewhere. -/
def triangle (X : Vec F S2048x2048x4 .f32) : Vec F S2048x2048x4 .f32 := fun i =>
  if (i 0).val ≤ (i 1).val then X i else Scalar.ofBits .f32 0x00000000#32

/-- Masking the packed array masks the triangle of the array. -/
theorem unpacked_masked (X : Vec F S2048x2048x4 .f32) : unpacked (masked (F := F) (packed X)) = triangle (F := F) X := by
  funext i
  have key : ∀ (r j : Fin 2048) (k : Fin 4), unpacked (masked (F := F) (packed X)) (ix3 r j k) = triangle (F := F) X (ix3 r j k) := by
    intro r j k
    rw [unpacked_at]
    unfold masked triangle
    rw [packed_at]
    have hk := k.isLt
    have e : (j.val / 128 * 4 + k.val) / 4 * 128 + j.val % 128 = j.val := by omega
    have hc : (⟨(j.val / 128 * 4 + k.val) / 4 * 128 + j.val % 128, by omega⟩ : Fin 2048) = j := Fin.ext e
    have hd : (⟨(j.val / 128 * 4 + k.val) % 4, by omega⟩ : Fin 4) = k := Fin.ext (by show _ % 4 = k.val; omega)
    rw [hc, hd]
    show (if r.val ≤ (j.val / 128 * 4 + k.val) / 4 * 128 + j.val % 128 then _ else _) = if r.val ≤ j.val then _ else _
    rw [e]
  have := key (i 0) (i 1) (i 2)
  rwa [← eq_ix3 i] at this

variable (m : (ℓ : Loc nD τ sig) → Buf (Elt F) ℓ) (ρ : Dev nD → PrngReg)

/-- The operand of the region is the packed argument. -/
theorem operand_eq (c : Dev nD) : V m c main_v2 = packed (m ((c : Thread nD τ).loc main_arg0)) := by
  unfold V V0
  simp only [List.flatten_cons, List.flatten_nil, List.append_nil]
  after_results
  rfl

/-- The host lines after the region unpack the region's array. -/
theorem result_eq (c : Dev nD) :
    Pipeline.afterTail₀ cfgs (dats m) 0 (V0 m) [hostOps1] c main_v6 = triangle (F := F) (m ((c : Thread nD τ).loc main_arg0)) := by
  rw [← unpacked_masked, ← operand_eq, ← array_eq]
  unfold Pipeline.afterTail₀
  simp only [List.flatten_cons, List.flatten_nil, List.append_nil]
  after_results
  erw [Pipeline.withArrays_arr _ launch0.win.arr_inj c _ _ 0]
  rfl

/-- Every execution of the kernel ends with the upper triangle of its argument, and the argument unchanged. -/
theorem value_run : θ_run defs (onTc (τ := τ) (main (F := F))) ⟨m, fun _ => 0, ρ⟩ (fun r => ∀ c : Dev nD,
      r.2.mem ((c.tc : Thread nD τ).loc main_v6) = triangle (F := F) (m ((c : Thread nD τ).loc main_arg0))
      ∧ r.2.mem ((c.tc : Thread nD τ).loc main_arg0) = m ((c.tc : Thread nD τ).loc main_arg0)) :=
  (θ_run defs _ _).mono (fun _ h c =>
    ⟨((h.1 c).2 main_v6 (Pipeline.mem_restRefs_of main_v6 (by decide) (by decide))).trans (result_eq m c),
     ((h.1 c).2 main_arg0 (Pipeline.mem_restRefs_of main_arg0 (by decide) (by decide))).trans (arg_kept m c)⟩) (run m ρ)

end Cert.Kernel.Slots

end
-- ==== Proof.IdealKernel.lean ====
/- The idealized kernel is the printed kernel's own text, so what holds of the one at any floats holds of the
   other. -/
module

public import proofs.«01_k».proof.Proof.KernelResult
public import proofs.«01_k».proof.Proof.Gen.KernelIdeal

@[expose] public section

set_option maxRecDepth 16384

noncomputable section

namespace Cert.KernelIdeal.Slots

open Idealize.ShloMosaic Idealize.ShloMosaic.TcCoe Idealize.SL.Sem

variable {F : FTy → Type} [FloatOps F]

/-- The two programs run the same body at every label. -/
theorem bodies_eq : Cert.KernelIdeal.defs₀ (F := F) = Cert.Kernel.defs₀ (F := F) := by
  unfold Cert.KernelIdeal.defs₀ Cert.Kernel.defs₀
  refine congrArg Defs.onTc (funext fun l => funext fun x => ?_)
  match l, x with
  | 0, (t, s) => rfl
  | ⟨_ + 1, h⟩, _ => exact absurd h (Nat.not_lt.2 (Nat.le_add_left _ _))

/-- So their tables of bodies are one. -/
theorem defs_eq : Cert.KernelIdeal.defs (F := F) = Cert.Kernel.defs (F := F) :=
  congrArg (Pipeline.defs (Cert.Kernel.pcfgs (F := F))) bodies_eq

variable (m : (ℓ : Loc nD τ sig) → Buf (Elt F) ℓ) (ρ : Dev nD → PrngReg)

/-- Every execution of the idealized kernel ends with its argument unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) := by
  rw [defs_eq]
  exact Cert.Kernel.Slots.frame_run m ρ

/-- And with the upper triangle of its argument as its result. -/
theorem value_run : θ_run defs (onTc (τ := τ) (main (F := F))) ⟨m, fun _ => 0, ρ⟩ (fun r => ∀ c : Dev nD,
      r.2.mem ((c.tc : Thread nD τ).loc main_v6) = Cert.Kernel.Slots.triangle (F := F) (m ((c.tc : Thread nD τ).loc main_arg0))
      ∧ r.2.mem ((c.tc : Thread nD τ).loc main_arg0) = m ((c.tc : Thread nD τ).loc main_arg0)) := by
  rw [defs_eq]
  exact Cert.Kernel.Slots.value_run m ρ

end Cert.KernelIdeal.Slots

end
-- ==== Proof.ReferenceValue.lean ====
/- What the reference computes: its mask compares the row number with the column number, so its result is the
   argument where the row is at most the column and zero elsewhere. -/
module

public import proofs.«01_k».proof.Proof.Gen.ReferenceIdeal.Run
public import Idealize.ShloMosaic.Lib.Pointwise
public import Idealize.ShloMosaic.Lib.WordCmp
public import Idealize.ShloMosaic.Lib.Quiescent

@[expose] public section

set_option maxRecDepth 16384

noncomputable section

namespace Cert.ReferenceIdeal.Triangle

open Idealize.ShloMosaic Idealize.ShloMosaic.TcCoe Idealize.SL.Sem
open Cert.ReferenceIdeal Cert.ReferenceIdeal.Gen

variable {F : FTy → Type} [FloatOps F]

/-- The mask: row number at most column number, one word per pair. -/
def mask : IVec S2048x2048x1 1 :=
  shapeCast S2048x2048x1 (cmpi .sle
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))
    shapeCasts_S2048x2048_S2048x2048x1

/-- The reference's composed term of its argument. -/
def term (X : Vec F S2048x2048x4 .f32) : Vec F S2048x2048x4 .f32 :=
  select (broadcastInDim S2048x2048x4 ![0, 1, 2] bcast_S2048x2048x1_S2048x2048x4_0_1_2 mask) X
    (broadcastInDim S2048x2048x4 ![] bcast_S_S2048x2048x4 (constant S_ .f32 0x00000000#32))

/-- At row `r`, column `j` and channel `k`: the argument's element if `r ≤ j`, zero if not. -/
theorem term_at (X : Vec F S2048x2048x4 .f32) (r j : Fin 2048) (k : Fin 4) :
    term (F := F) X (ix3 r j k) = if r.val ≤ j.val then X (ix3 r j k) else Scalar.ofBits .f32 0x00000000#32 := by
  pointwise [term, mask]
  simp (disch := word_cmp_side) only [hlo_ix]

variable (m : (ℓ : Loc nD τ sig) → Buf (Elt F) ℓ) (ρ : Dev nD → PrngReg)

/-- Every execution of the reference ends with that term of its argument, and the argument unchanged. -/
theorem value_run : θ_run defs (onTc (τ := τ) (main (F := F))) ⟨m, fun _ => 0, ρ⟩ (fun r => ∀ c : Dev nD,
      r.2.mem ((c.tc : Thread nD τ).loc main_v8) = term (F := F) (m ((c.tc : Thread nD τ).loc main_arg0))
      ∧ r.2.mem ((c.tc : Thread nD τ).loc main_arg0) = m ((c.tc : Thread nD τ).loc main_arg0)) :=
  Cert.ReferenceIdeal.Value.run m ρ

/-- Every execution of the reference ends with its argument unchanged; it declares no semaphore. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (value_run m ρ)

end Cert.ReferenceIdeal.Triangle

end
-- ==== Proof.Equation.lean ====
/- The equation: the kernel's result and the reference's are the same array. -/
module

public import proofs.«01_k».proof.Proof.IdealKernel
public import proofs.«01_k».proof.Proof.ReferenceValue

@[expose] public section

set_option maxRecDepth 16384

noncomputable section

namespace Cert.Equation

open Idealize.ShloMosaic

variable {F : FTy → Type} [FloatOps F]

/-- The reference's term of an array is the upper triangle of it. -/
theorem term_eq (X : Vec F Cert.Kernel.S2048x2048x4 .f32) :
    Cert.ReferenceIdeal.Triangle.term (F := F) X = Cert.Kernel.Slots.triangle (F := F) X := by
  funext i
  have h := Cert.ReferenceIdeal.Triangle.term_at (F := F) X (i 0) (i 1) (i 2)
  rw [← eq_ix3 i] at h
  exact h

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation

@[expose] public section

set_option maxRecDepth 16384

noncomputable section

namespace Cert.Proof

open Idealize.ShloMosaic Idealize.ShloMosaic.TcCoe Idealize.SL.Sem

/-- The two programs, from memories that agree on the argument, end with the upper triangle of it. -/
theorem equal_results : Cert.algebraic_KernelIdeal_ReferenceIdeal (hKernelIdeal := Cert.KernelIdeal.Gen.facts)
    (hReferenceIdeal := Cert.ReferenceIdeal.Gen.facts) := by
  intro m g m' g' _ hm
  refine ⟨fun c => Cert.Kernel.Slots.triangle (F := Ideal) (m ((c.tc : Thread Cert.KernelIdeal.nD Cert.KernelIdeal.τ).loc Cert.KernelIdeal.main_arg0)),
    Cert.KernelIdeal.Slots.value_run m g, (θ_run _ _ _).mono (fun r h c => ⟨?_, (h c).2⟩) (Cert.ReferenceIdeal.Triangle.value_run m' g')⟩
  exact ((h c).1.trans (congrArg (Cert.ReferenceIdeal.Triangle.term (F := Ideal)) (hm c))).trans (Cert.Equation.term_eq _)

/-- Every claim. -/
theorem claim : Cert.Claim := ⟨Cert.Kernel.Gen.facts, Cert.KernelIdeal.Gen.facts, Cert.ReferenceIdeal.Gen.facts,
  fun m g _ => Cert.Kernel.Slots.frame_run m g,
  fun m g _ => Cert.KernelIdeal.Slots.frame_run m g,
  fun m g _ => Cert.ReferenceIdeal.Triangle.frame_run m g,
  trivial, equal_results⟩

end Cert.Proof

end
